-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "inv448" .f32 0x3B124925#32 ((448⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)) (v2 : (c : Dev Cert.KernelIdeal.nD) → Buf (Elt Ideal) ((c.tc : Thread Cert.KernelIdeal.nD Cert.KernelIdeal.τ).loc Cert.KernelIdeal.main_v1_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v26) = v0 c
          ∧ r.2.mem ((c.tc : Thread Cert.ReferenceIdeal.nD Cert.ReferenceIdeal.τ).loc Cert.ReferenceIdeal.main_v27) = v1 c
          ∧ r.2.mem ((c.tc : Thread Cert.ReferenceIdeal.nD Cert.ReferenceIdeal.τ).loc Cert.ReferenceIdeal.main_v0) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16384x4096 : Shape := ⟨2, ![16384, 4096]⟩
abbrev S4096 : Shape := ⟨1, ![4096]⟩
abbrev S1x4096 : Shape := ⟨2, ![1, 4096]⟩
abbrev S16384x32 : Shape := ⟨2, ![16384, 32]⟩
abbrev S256x4096 : Shape := ⟨2, ![256, 4096]⟩
abbrev S256x32 : Shape := ⟨2, ![256, 32]⟩
abbrev S256 : Shape := ⟨1, ![256]⟩
abbrev S256x1 : Shape := ⟨2, ![256, 1]⟩
abbrev S256x128 : Shape := ⟨2, ![256, 128]⟩

abbrev nBuf : Space → Nat
  | .hbm => 7
  | .vmem => 11
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S4096, .f32⟩
  | .hbm, ⟨3, _⟩ => ⟨S1x4096, .f32⟩
  | .hbm, ⟨4, _⟩ => ⟨S16384x4096, .fp8e4m3⟩
  | .hbm, ⟨5, _⟩ => ⟨S16384x32, .f32⟩
  | .hbm, ⟨6, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S1x4096, .f32⟩
  | .local _ .vmem, ⟨5, _⟩ => ⟨S256x4096, .fp8e4m3⟩
  | .local _ .vmem, ⟨6, _⟩ => ⟨S256x4096, .fp8e4m3⟩
  | .local _ .vmem, ⟨7, _⟩ => ⟨S256x32, .f32⟩
  | .local _ .vmem, ⟨8, _⟩ => ⟨S256x32, .f32⟩
  | .local _ .vmem, ⟨9, _⟩ => ⟨S256x4096, .f32⟩
  | .local _ .vmem, ⟨10, _⟩ => ⟨S256x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![2, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S256x4096 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x32 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== KernelIdeal.lean ====
variable {F : FTy → Type} [FloatOps F] [Named F]
def κ : String → Option EReal := fun
  | "inv448" => some ((448⁻¹ : ℝ) : EReal)
  | _ => none
-- ==== ReferenceIdeal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S16384x32x128 : Shape := ⟨3, ![16384, 32, 128]⟩
abbrev S16384x32 : Shape := ⟨2, ![16384, 32]⟩
abbrev S16384x32x1 : Shape := ⟨3, ![16384, 32, 1]⟩

abbrev nBuf : Space → Nat
  | .hbm => 44
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S16384x4096, .f32⟩
  | .hbm, ⟨2, _⟩ => ⟨S4096, .f32⟩
  | .hbm, ⟨3, _⟩ => ⟨S16384x4096, .f32⟩
  | .hbm, ⟨4, _⟩ => ⟨S16384x4096, .f32⟩
  | .hbm, ⟨5, _⟩ => ⟨S_, .f32⟩
  | .hbm, ⟨6, _⟩ => ⟨S16384, .f32⟩
  | .hbm, ⟨7, _⟩ => ⟨S16384x1, .f32⟩
  | .hbm, ⟨8, _⟩ => ⟨S_, .f32⟩
  | .hbm, ⟨9, _⟩ => ⟨S16384x1, .f32⟩
  | .hbm, ⟨10, _⟩ => ⟨S16384x1, .f32⟩
  | .hbm, ⟨11, _⟩ => ⟨S_, .f32⟩
  | .hbm, ⟨12, _⟩ => ⟨S16384x1, .f32⟩
  | .hbm, ⟨13, _⟩ => ⟨S16384x1, .f32⟩
  | .hbm, ⟨14, _⟩ => ⟨S16384x1, .f32⟩
  | .hbm, ⟨15, _⟩ => ⟨S16384x4096, .f32⟩
  | .hbm, ⟨16, _⟩ => ⟨S16384x4096, .f32⟩
  | .hbm, ⟨17, _⟩ => ⟨S1x4096, .f32⟩
  | .hbm, ⟨18, _⟩ => ⟨S16384x4096, .f32⟩
  | .hbm, ⟨19, _⟩ => ⟨S16384x4096, .f32⟩
  | .hbm, ⟨20, _⟩ => ⟨S16384x32x128, .f32⟩
  | .hbm, ⟨21, _⟩ => ⟨S16384x32x128, .f32⟩
  | .hbm, ⟨22, _⟩ => ⟨S_, .f32⟩
  | .hbm, ⟨23, _⟩ => ⟨S16384x32, .f32⟩
  | .hbm, ⟨24, _⟩ => ⟨S16384x32x1, .f32⟩
  | .hbm, ⟨25, _⟩ => ⟨S_, .f32⟩
  | .hbm, ⟨26, _⟩ => ⟨S16384x32x1, .f32⟩
  | .hbm, ⟨27, _⟩ => ⟨S16384x32x1, .f32⟩
  | .hbm, ⟨28, _⟩ => ⟨S_, .f32⟩
  | .hbm, ⟨29, _⟩ => ⟨S16384x32x1, .f32⟩
  | .hbm, ⟨30, _⟩ => ⟨S16384x32x1, .f32⟩
  | .hbm, ⟨31, _⟩ => ⟨S16384x32x128, .f32⟩
  | .hbm, ⟨32, _⟩ => ⟨S16384x32x128, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S16384x32x128, .f32⟩
  | .hbm, ⟨37, _⟩ => ⟨S16384x32x128, .f32⟩
  | .hbm, ⟨38, _⟩ => ⟨S_, .f32⟩
  | .hbm, ⟨39, _⟩ => ⟨S16384x32x128, .f32⟩
  | .hbm, ⟨40, _⟩ => ⟨S16384x32x128, .f32⟩
  | .hbm, ⟨41, _⟩ => ⟨S16384x4096, .f32⟩
  | .hbm, ⟨42, _⟩ => ⟨S16384x4096, .fp8e4m3⟩
  | .hbm, ⟨43, _⟩ => ⟨S16384x32, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_cst_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_2 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_5 : Ref sig .tc := ⟨.hbm, 33, rfl⟩
abbrev main_cst_6 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_call0_v3 : Ref sig .tc := ⟨.hbm, 38, rfl⟩
abbrev main_call0_v4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩

abbrev nD : Nat := 1
abbrev τ : Topo := Topo.v7x

variable {F : FTy → Type} [FloatOps F]
-- ==== Proof.Row.lean ====
/- One row of the computation, in plain mathematics over the extended reals, naming neither program: the root-mean-square
   normalisation of a row of 4096 numbers, the scale of each of its 32 groups of 128, and the quantised value of each entry. -/
module

public import Idealize.ShloMosaic.PureOps.Ideal

@[expose] public section

noncomputable section

namespace Cert.Row

open Idealize.ShloMosaic

/-- A row of 4096 numbers. -/
abbrev Row := Fin 4096 → EReal

/-- Entry `k` of group `g`. -/
abbrev lane (g : Fin 32) (k : Fin 128) : Fin 4096 := ⟨128 * g + k, by omega⟩

/-- The group that entry `c` lies in. -/
abbrev group (c : Fin 4096) : Fin 32 := ⟨c / 128, by omega⟩

/-- One over the root of (the mean of the squares plus the small constant). -/
def invRms (h : Row) : EReal :=
  Ideal.rsqrt (Ideal.div (∑ k, h k * h k) (Ideal.ofBits .f32 0x45800000#32) + Ideal.ofBits .f32 0x358637BD#32)

/-- The normalised row, weighted entry by entry. -/
def normed (h w : Row) : Row := fun c => h c * invRms h * w c

/-- The scale of group `g`: its largest magnitude, kept off zero, over 448. -/
def scale (y : Row) (g : Fin 32) : EReal :=
  Ideal.div
    (max (Finset.univ.fold max (Ideal.ofBits .f32 0xFF800000#32)
        fun k : Fin 128 => max (y (lane g k)) (-y (lane g k)))
      (Ideal.ofBits .f32 0x2EDBE6FF#32))
    (Ideal.ofBits .f32 0x43E00000#32)

/-- The quantised entry: the entry over its group's scale, clipped to the range of the eight-bit format. -/
def quant (y : Row) (c : Fin 4096) : EReal :=
  min (Ideal.ofBits .f32 0x43E00000#32) (max (Ideal.ofBits .f32 0xC3E00000#32) (Ideal.div (y c) (scale y (group c))))

end Cert.Row

end
-- ==== Proof.Consts.lean ====
/- The float constants the two programs spell, as the real numbers their bit patterns denote. -/
module

public import Idealize.ShloMosaic.PureOps.Ideal

@[expose] public section

noncomputable section

namespace Cert.Consts

open Idealize.ShloMosaic

/-- The kernel's factor for the mean of 4096 squares is exactly `1 / 4096`. -/
theorem mean_factor : Ideal.ofBits .f32 0x39800000#32 = ((1 / 4096 : ℝ) : EReal) := by
  simp [Ideal.ofBits, Ideal.ieee, -EReal.coe_mul]; norm_num

/-- The reference's divisor for the mean is exactly `4096`. -/
theorem mean_divisor : Ideal.ofBits .f32 0x45800000#32 = ((4096 : ℝ) : EReal) := by
  simp [Ideal.ofBits, Ideal.ieee, -EReal.coe_mul]; norm_num

/-- The largest finite value of the eight-bit format, `448`, is exact. -/
theorem top_value : Ideal.ofBits .f32 0x43E00000#32 = ((448 : ℝ) : EReal) := by
  simp [Ideal.ofBits, Ideal.ieee, -EReal.coe_mul]; norm_num

end Cert.Consts

end
-- ==== Proof.Tile.lean ====
/- What one grid point of the kernel computes from its blocks, read entry by entry: the sum, the normalised block, the scale
   of each group of 128 columns and the quantised tile of each group. The 32 groups run through ONE lemma at a symbolic
   column offset. -/
module

public import proofs.«01_k».proof.Proof.Row
public import proofs.«01_k».proof.Proof.Consts
public import proofs.«01_k».proof.Proof.Gen.KernelIdeal.Skeleton
public import Idealize.ShloMosaic.Lib.Pointwise

@[expose] public section

set_option maxRecDepth 16384

noncomputable section

namespace Cert.KernelIdeal.Tile

open Cert.KernelIdeal Cert.KernelIdeal.Gen Idealize.ShloMosaic
open Cert.Row (Row lane group)

/-- The kernel's named constant is the real number `1 / 448`. -/
theorem inv448 : Named.named (F := Ideal) κ "inv448" (φ := .f32) 0x3B124925#32 = (((448 : ℝ)⁻¹ : ℝ) : EReal) :=
  IdealRules.named_const.ideal_named_scalar _ _ _ _ rfl

/-- Multiplying by the named constant is dividing by 448. -/
theorem mul_inv448 (x : EReal) :
    x * Named.named (F := Ideal) κ "inv448" (φ := .f32) 0x3B124925#32 = Ideal.div x (Ideal.ofBits .f32 0x43E00000#32) := by
  rw [inv448, Cert.Consts.top_value, Ideal.div_coe (by norm_num), one_div]

/-- Multiplying by the kernel's factor for the mean is dividing by 4096. -/
theorem mul_mean (x : EReal) :
    x * Ideal.ofBits .f32 0x39800000#32 = Ideal.div x (Ideal.ofBits .f32 0x45800000#32) := by
  rw [Cert.Consts.mean_factor, Cert.Consts.mean_divisor, Ideal.div_coe (by norm_num)]

/-- Row `r` of a block. -/
abbrev rowOf (y : FVec Ideal S256x4096 .f32) (r : Fin 256) : Row := fun c => y (ix2 r c)

/-- The normalised block, row by row, is the normalised row of the two inputs' sum. -/
theorem normed_at (x0 x1 : FVec Ideal S256x4096 .f32) (w : FVec Ideal S1x4096 .f32) (r : Fin 256) (c : Fin 4096) :
    k0_pay5 (F := Ideal) x0 x1 w (ix2 r c)
      = Cert.Row.normed (fun k => x0 (ix2 r k) + x1 (ix2 r k)) (fun k => w (ix2 0 k)) c := by
  pointwise [k0_pay5, k0_pay4]
  rw [mul_mean]
  rfl

/-- The scales of the 128 columns from column `n` on, one per row, as the kernel computes them. -/
def scaleCol (n : ℕ) (h : S256x4096.Slices ![0, n] S256x128) (y : FVec Ideal S256x4096 .f32) : FVec Ideal S256x1 .f32 :=
  mulf (maximumf (shapeCast S256x1 (multiReduction .maximumf [1] S256 (absf (extractStridedSlice S256x128 ![0, n] y h))
      0xFF800000#32 reduces_S256x128_S256 (.inl rfl) rfl) shapeCasts_S256_S256x1)
    (broadcast S256x1 (Scalar.ofBits .f32 0x2EDBE6FF#32))) (broadcast S256x1 (Named.named κ "inv448" 0x3B124925#32))

/-- The quantised tile of those columns, as the kernel computes it. -/
def quantTile (n : ℕ) (h : S256x4096.Slices ![0, n] S256x128) (y : FVec Ideal S256x4096 .f32) : FVec Ideal S256x128 .fp8e4m3 :=
  truncf .fp8e4m3 (minimumf (broadcast S256x128 (Scalar.ofBits .f32 0x43E00000#32))
    (maximumf (broadcast S256x128 (Scalar.ofBits .f32 0xC3E00000#32))
      (divf (extractStridedSlice S256x128 ![0, n] y h) (broadcastTo S256x128 (scaleCol n h y) broadcasts_S256x1_S256x128))))
    bitsLt_fp8e4m3_f32

/-- The scale column at a row is the row's scale of that group. -/
theorem scaleCol_at (n : ℕ) (h : S256x4096.Slices ![0, n] S256x128) (y : FVec Ideal S256x4096 .f32) (g : Fin 32)
    (hn : n = 128 * g) (r : Fin 256) (z : Fin 1) : scaleCol n h y (ix2 r z) = Cert.Row.scale (rowOf y r) g := by
  subst hn
  pointwise [scaleCol]
  rw [mul_inv448]
  rfl

/-- The quantised tile at an entry is the row's quantised value at that column. -/
theorem quantTile_at (n : ℕ) (h : S256x4096.Slices ![0, n] S256x128) (y : FVec Ideal S256x4096 .f32) (g : Fin 32)
    (hn : n = 128 * g) (r : Fin 256) (k : Fin 128) :
    quantTile n h y (ix2 r k) = Cert.Row.quant (rowOf y r) (lane g k) := by
  have hg : group (lane g k) = g := Fin.ext (by show (128 * (g : ℕ) + k) / 128 = g; omega)
  unfold Cert.Row.quant
  rw [hg, ← scaleCol_at n h y g hn r 0]
  subst hn
  pointwise [quantTile]

end Cert.KernelIdeal.Tile

end
-- ==== Proof.Block.lean ====
/- What one grid point of the kernel leaves in its three output blocks, as functions of its input blocks: the 32 stores of
   the quantised output join to one function of the block index, and so do the 32 columns of the scales. -/
module

public import proofs.«01_k».proof.Proof.Tile
public import proofs.«01_k».proof.Proof.Gen.KernelIdeal.Frame
public import Idealize.ShloMosaic.Lib.Pipeline.ValueKit

@[expose] public section

set_option maxRecDepth 16384

noncomputable section

namespace Cert.KernelIdeal.Block

open Cert.KernelIdeal Cert.KernelIdeal.Gen Cert.KernelIdeal.Tile Idealize.ShloMosaic
open Cert.Row (Row lane group)

/-- The quantised block of a normalised block. -/
def quantBlock (y : FVec Ideal S256x4096 .f32) : FVec Ideal S256x4096 .fp8e4m3 :=
  fun j => Cert.Row.quant (rowOf y (j 0)) (j 1)

/-- The store `p` holds the quantised block where it is put. -/
abbrev Holds (y : FVec Ideal S256x4096 .f32) (p : View.Piece (Elt Ideal) S256x4096 .fp8e4m3) : Prop :=
  ∀ x, p.2 x = quantBlock y (p.1.emb x)

/-- A store of the quantised tile whose columns start at `n`, a multiple of 128, holds the quantised block there. -/
theorem tile_holds {y : FVec Ideal S256x4096 .f32} {n : ℕ} {hb : ∀ a, ![0, n] a + S256x128.size a ≤ S256x4096.size a}
    {p : FVec Ideal S256x128 .fp8e4m3} (h : S256x4096.Slices ![0, n] S256x128) (hn : n % 128 = 0)
    (hp : p = quantTile n h y) : Holds y ⟨Rect.unit (s := S256x4096) ![0, n] S256x128.size hb, p⟩ := by
  have h1 : n + 128 ≤ 4096 := hb 1
  intro (x : S256x128.Idx)
  subst hp
  idx_vars x
  refine (quantTile_at n h y ⟨n / 128, by omega⟩ (by show n = 128 * (n / 128); omega) x0 x1).trans ?_
  unfold quantBlock
  have e0 : ((Rect.unit (s := S256x4096) ![0, n] S256x128.size hb).emb (ix2 x0 x1)) 0 = x0 :=
    Fin.ext (by show 0 + 1 * (x0 : ℕ) = x0; omega)
  have e1 : ((Rect.unit (s := S256x4096) ![0, n] S256x128.size hb).emb (ix2 x0 x1)) 1 = lane ⟨n / 128, by omega⟩ x1 :=
    Fin.ext (by show n + 1 * (x1 : ℕ) = 128 * (n / 128) + x1; omega)
  rw [e0, e1]

/-- The block of quantised values a grid point leaves. -/
theorem out3_eq (x0 x1 : FVec Ideal S256x4096 .f32) (x2 : FVec Ideal S1x4096 .f32) (j : S256x4096.Idx) :
    out0_3 (F := Ideal) x0 x1 x2 j = quantBlock (k0_pay119 (F := Ideal) x0 x1 x2) j := by
  unfold out0_3
  refine View.canon_apply_of_pieces (Val := Elt Ideal) (S := S256x4096) (e := .fp8e4m3)
    (quantBlock (k0_pay119 (F := Ideal) x0 x1 x2)) _ ?_ j (cover0_3 ..)
  repeat' refine List.forall_mem_cons.2 ⟨tile_holds (by decide) (by rfl) (by rfl), ?_⟩
  exact List.forall_mem_nil _

/-- The block of scales of a normalised block. -/
def scaleBlock (y : FVec Ideal S256x4096 .f32) : FVec Ideal S256x32 .f32 :=
  fun j => Cert.Row.scale (rowOf y (j 0)) (j 1)

/-- Every group's 128 columns lie in the block. -/
theorem slices : ∀ g : Fin 32, S256x4096.Slices ![0, 128 * (g : ℕ)] S256x128 := by decide

/-- The 32 scale columns, as a family over the groups. -/
def cols (y : FVec Ideal S256x4096 .f32) : Fin 32 → FVec Ideal S256x1 .f32 := fun g => scaleCol (128 * g) (slices g) y

/-- Thirty-two columns side by side fill a block of width 32. -/
theorem joins : Shape.Concatenates (List.replicate 32 S256x1) S256x32 1 := by decide

/-- The 32 scale columns side by side are the block of scales. -/
theorem concat_eq (y : FVec Ideal S256x4096 .f32) (j : S256x32.Idx) :
    concatenate S256x32 1 (List.ofFn fun g => (⟨S256x1, cols y g⟩ : (s : Shape) × (s.Idx → Ideal .f32))) joins j = scaleBlock y j := by
  idx_vars j
  refine (concatenate_ofFn_apply (t := S256x32) (s₁ := S256x1) (1 : Fin 2) (cols y) joins rfl 1 rfl (ix2 j0 j1) j1
    (Nat.div_one _) (ix2 j0 0) (Nat.mod_one _).symm fun b hb => ?_).trans (scaleCol_at _ _ y j1 rfl j0 0)
  match b with
  | ⟨0, _⟩ => rfl
  | ⟨1, _⟩ => exact absurd rfl hb

/-- The block of scales a grid point leaves. -/
theorem out4_eq (x0 x1 : FVec Ideal S256x4096 .f32) (x2 : FVec Ideal S1x4096 .f32) (j : S256x32.Idx) :
    out0_4 (F := Ideal) x0 x1 x2 j = scaleBlock (k0_pay119 (F := Ideal) x0 x1 x2) j := by
  unfold out0_4
  refine View.canon_apply_of_pieces (Val := Elt Ideal) (S := S256x32) (e := .f32)
    (scaleBlock (k0_pay119 (F := Ideal) x0 x1 x2)) _ ?_ j (cover0_4 ..)
  refine List.forall_mem_cons.2 ⟨fun x => ?_, List.forall_mem_nil _⟩
  refine (concat_eq (k0_pay119 (F := Ideal) x0 x1 x2) x).trans (congrArg _ ?_)
  funext a
  exact Fin.ext (by match a with | ⟨0, _⟩ | ⟨1, _⟩ => exact ((Nat.zero_add _).trans (Nat.one_mul _)).symm)

/-- The block of sums a grid point leaves. -/
theorem out5_eq (x0 x1 : FVec Ideal S256x4096 .f32) (x2 : FVec Ideal S1x4096 .f32) :
    out0_5 (F := Ideal) x0 x1 x2 = addf x0 x1 := by
  frame_out
  rfl

/-- The normalised block is computed from the whole input blocks. -/
theorem normed_eq (x0 x1 : FVec Ideal S256x4096 .f32) (x2 : FVec Ideal S1x4096 .f32) :
    k0_pay119 (F := Ideal) x0 x1 x2 = k0_pay5 x0 x1 x2 := by
  unfold k0_pay119
  frame_out

end Cert.KernelIdeal.Block

end
-- ==== Proof.Array.lean ====
/- The kernel's three result arrays after the run, as functions of the argument arrays: grid point `t` works on rows
   `256 t` to `256 t + 255`, the points' blocks tile the arrays, and each row depends on that row of the inputs alone. -/
module

public import proofs.«01_k».proof.Proof.Block
public import Idealize.ShloMosaic.Lib.Claim

@[expose] public section

set_option maxRecDepth 16384

noncomputable section

namespace Cert.KernelIdeal.Array

open Cert.KernelIdeal Cert.KernelIdeal.Gen Cert.KernelIdeal.Tile Cert.KernelIdeal.Block
open Idealize.ShloMosaic Idealize.ShloMosaic.TcCoe Idealize.SL.Sem
open Cert.Row (Row)

/-- The normalised row `r` of the arguments. -/
def rowAt (X R : FVec Ideal S16384x4096 .f32) (W : FVec Ideal S4096 .f32) (r : Fin 16384) : Row :=
  Cert.Row.normed (fun k => X (ix2 r k) + R (ix2 r k)) fun k => W (ix1 k)

/-- The quantised values of every row. -/
def quantAll (X R : FVec Ideal S16384x4096 .f32) (W : FVec Ideal S4096 .f32) : FVec Ideal S16384x4096 .fp8e4m3 :=
  fun i => Cert.Row.quant (rowAt X R W (i 0)) (i 1)

/-- The scales of every row's groups. -/
def scaleAll (X R : FVec Ideal S16384x4096 .f32) (W : FVec Ideal S4096 .f32) : FVec Ideal S16384x32 .f32 :=
  fun i => Cert.Row.scale (rowAt X R W (i 0)) (i 1)

variable (m : (ℓ : Loc nD τ sig) → Buf (Elt Ideal) ℓ)

/-- Which block each window holds at each grid point. -/
theorem idx : ∀ t : Fin cfg0.N, win0_0.index t = ![t.val, 0] ∧ win0_1.index t = ![t.val, 0] ∧ win0_2.index t = ![0, 0]
    ∧ win0_3.index t = ![t.val, 0] ∧ win0_4.index t = ![t.val, 0] ∧ win0_5.index t = ![t.val, 0] :=
  (by decide +kernel : ∀ t : Fin grid0.N, _)

/-- Row `r` of the block normalised at point `t` is row `256 t + r` of the arguments, normalised. -/
theorem row_eq (c : Dev nD) (t : Fin cfg0.N) (r : Fin 256) (R : Fin 16384) (hR : (R : ℕ) = t.val * 256 + r) :
    rowOf (k0_pay119 (F := Ideal) (iblk m c 0 t) (iblk m c 1 t) (iblk m c 2 t)) r
      = rowAt (m ((c : Thread nD τ).loc main_arg0)) (m ((c : Thread nD τ).loc main_arg1)) (m ((c : Thread nD τ).loc main_arg2)) R := by
  funext k
  rw [normed_eq]
  refine (normed_at _ _ _ r k).trans ?_
  unfold rowAt
  refine congrArg₂ (fun h w => Cert.Row.normed h w k) (funext fun l => ?_) (funext fun l => ?_)
  · blk_point [iblk, V, idx t]
  · blk_point [iblk, V, idx t]

/-- The quantised array after the run. -/
theorem final3 (c : Dev nD) : (dats m 0 c).arrAt 3 cfg0.N
    = quantAll (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  refine (out3_eq _ _ _ y).trans ?_
  refine congrArg₂ Cert.Row.quant (row_eq m c t (y 0) _ ?_) (Fin.ext ?_) <;> blk_simp [idx t]

/-- The array of scales after the run. -/
theorem final4 (c : Dev nD) : (dats m 0 c).arrAt 4 cfg0.N
    = scaleAll (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  refine (out4_eq _ _ _ y).trans ?_
  refine congrArg₂ Cert.Row.scale (row_eq m c t (y 0) _ ?_) (Fin.ext ?_) <;> blk_simp [idx t]

/-- The array of sums after the run. -/
theorem final5 (c : Dev nD) : (dats m 0 c).arrAt 5 cfg0.N
    = addf (F := Ideal) (φ := .f32) (m ((c : Thread nD τ).loc main_arg0)) (m ((c : Thread nD τ).loc main_arg1)) := by
  refine (dats m 0 c).arrAt_eq_of_covers 5 _ (by decide +kernel) fun t _ y => ?_
  blk_simp
  rw [after0_5]
  refine (congrFun (out5_eq _ _ _) y).trans ?_
  pointwise
  blk_point [iblk, V, idx t]

/-- Every run of the kernel ends with the three arrays above, the arguments unchanged. -/
theorem run (ρ : Dev nD → PrngReg) :
    θ_run defs (onTc (τ := τ) (main (F := Ideal))) ⟨m, fun _ => 0, ρ⟩ fun r => ∀ c : Dev nD,
      r.2.mem ((c : Thread nD τ).loc main_v1_0) = quantAll (m ((c : Thread nD τ).loc main_arg0)) (m ((c : Thread nD τ).loc main_arg1)) (m ((c : Thread nD τ).loc main_arg2))
      ∧ r.2.mem ((c : Thread nD τ).loc main_v1_1) = scaleAll (m ((c : Thread nD τ).loc main_arg0)) (m ((c : Thread nD τ).loc main_arg1)) (m ((c : Thread nD τ).loc main_arg2))
      ∧ r.2.mem ((c : Thread nD τ).loc main_v1_2) = addf (F := Ideal) (φ := .f32) (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) := by
  run_from run_main m ρ
  · exact final3 m c
  · exact final4 m c
  · exact final5 m c

end Cert.KernelIdeal.Array

end
-- ==== Proof.Reference.lean ====
/- The reference's three results, read entry by entry: each is the plain row mathematics of the arguments' row. -/
module

public import proofs.«01_k».proof.Proof.Row
public import proofs.«01_k».proof.Proof.Gen.ReferenceIdeal.Run
public import Idealize.ShloMosaic.Lib.Pointwise

@[expose] public section

set_option maxRecDepth 16384

noncomputable section

namespace Cert.ReferenceIdeal.Result

open Cert.ReferenceIdeal Cert.ReferenceIdeal.Gen Idealize.ShloMosaic
open Cert.Row (Row lane group)

/-- The normalised and weighted array. -/
def normed (X R : FVec Ideal S16384x4096 .f32) (W : FVec Ideal S4096 .f32) : FVec Ideal S16384x4096 .f32 :=
  mulf (mulf (addf X R) (broadcastInDim S16384x4096 ![0, 1] bcast_S16384x1_S16384x4096_0_1
      (Host.rsqrt (addf (Host.divf (broadcastInDim S16384x1 ![0] bcast_S16384_S16384x1_0
          (Host.reduceAdd (mulf (addf X R) (addf X R)) (constant S_ .f32 0x00000000#32) reducesTo_S16384x4096_S16384_d1 h_S_))
          (broadcastInDim S16384x1 ![] bcast_S_S16384x1 (constant S_ .f32 0x45800000#32)))
        (broadcastInDim S16384x1 ![] bcast_S_S16384x1 (constant S_ .f32 0x358637BD#32))))))
    (broadcastInDim S16384x4096 ![0, 1] bcast_S1x4096_S16384x4096_0_1 (broadcastInDim S1x4096 ![1] bcast_S4096_S1x4096_1 W))

/-- Each row cut into its 32 groups of 128. -/
def grouped (y : FVec Ideal S16384x4096 .f32) : FVec Ideal S16384x32x128 .f32 :=
  shapeCast _ y shapeCasts_S16384x4096_S16384x32x128

/-- The largest entry of each group. -/
def largest (v : FVec Ideal S16384x32x128 .f32) : FVec Ideal S16384x32 .f32 :=
  Host.reduce FloatOps.maximumf v (constant S_ .f32 0xFF800000#32) reducesTo_S16384x32x128_S16384x32_d2 h_S_

/-- The scale made of a group's largest magnitude. -/
def overTop (v : FVec Ideal S16384x32 .f32) : FVec Ideal S16384x32x1 .f32 :=
  Host.divf (maximumf (broadcastInDim S16384x32x1 ![0, 1] bcast_S16384x32_S16384x32x1_0_1 v)
      (broadcastInDim S16384x32x1 ![] bcast_S_S16384x32x1 (constant S_ .f32 0x2EDBE6FF#32)))
    (broadcastInDim S16384x32x1 ![] bcast_S_S16384x32x1 (constant S_ .f32 0x43E00000#32))

/-- The scale of each row's groups. -/
def scale (y : FVec Ideal S16384x4096 .f32) : FVec Ideal S16384x32x1 .f32 :=
  overTop (largest (Host.absf (grouped y)))

/-- The quantised array. -/
def quant (y : FVec Ideal S16384x4096 .f32) : FVec Ideal S16384x4096 .fp8e4m3 :=
  Host.convertf .fp8e4m3 (shapeCast _ (minimumf
      (broadcastInDim S16384x32x128 ![] bcast_S_S16384x32x128 (id (constant S_ .f32 0x43E00000#32)))
      (maximumf (broadcastInDim S16384x32x128 ![] bcast_S_S16384x32x128 (id (constant S_ .f32 0xC3E00000#32)))
        (Host.divf (grouped y)
          (broadcastInDim S16384x32x128 ![0, 1, 2] bcast_S16384x32x1_S16384x32x128_0_1_2 (scale y)))))
    shapeCasts_S16384x32x128_S16384x4096)

/-- A row of the normalised array is the normalised row of the arguments. -/
theorem normed_at (X R : FVec Ideal S16384x4096 .f32) (W : FVec Ideal S4096 .f32) (r : Fin 16384) (c : Fin 4096) :
    normed X R W (ix2 r c) = Cert.Row.normed (fun k => X (ix2 r k) + R (ix2 r k)) (fun k => W (ix1 k)) c := by
  pointwise [normed]
  rfl

/-- Entry `k` of group `g` stands at column `128 g + k`. -/
theorem grouped_at (y : FVec Ideal S16384x4096 .f32) (r : Fin 16384) (g : Fin 32) (k : Fin 128) :
    grouped y (ix3 r g k) = y (ix2 r (lane g k)) := by
  pointwise [grouped]
  exact congrArg (fun z => y (ix2 r z)) (Fin.ext (by show (g : ℕ) * 128 + k = 128 * g + k; omega))

/-- The largest entry of a group, as a maximum over its 128 entries. -/
theorem largest_at (v : FVec Ideal S16384x32x128 .f32) (r : Fin 16384) (g : Fin 32) :
    largest v (ix2 r g) = Finset.univ.fold max (Ideal.ofBits .f32 0xFF800000#32) fun k : Fin 128 => v (ix3 r g k) := by
  pointwise [largest]

/-- The scale made of a largest magnitude, at a row and group. -/
theorem overTop_at (v : FVec Ideal S16384x32 .f32) (r : Fin 16384) (g : Fin 32) (z : Fin 1) :
    overTop v (ix3 r g z)
      = Ideal.div (max (v (ix2 r g)) (Ideal.ofBits .f32 0x2EDBE6FF#32)) (Ideal.ofBits .f32 0x43E00000#32) := by
  pointwise [overTop]

/-- The magnitude of an entry. -/
theorem abs_at (v : FVec Ideal S16384x32x128 .f32) (i : S16384x32x128.Idx) : Host.absf v i = max (v i) (-v i) := rfl

/-- The reference's scale at a row and group is the row's scale of that group. -/
theorem scale_at (y : FVec Ideal S16384x4096 .f32) (r : Fin 16384) (g : Fin 32) (z : Fin 1) :
    scale y (ix3 r g z) = Cert.Row.scale (fun c => y (ix2 r c)) g := by
  unfold scale Cert.Row.scale
  rw [overTop_at, largest_at]
  refine congrArg (fun f => Ideal.div (max (Finset.univ.fold max _ f) _) _) (funext fun k => ?_)
  rw [abs_at, grouped_at]

/-- The reference's quantised entry is the row's quantised value at that column. -/
theorem quant_at (y : FVec Ideal S16384x4096 .f32) (r : Fin 16384) (c : Fin 4096) :
    quant y (ix2 r c) = Cert.Row.quant (fun k => y (ix2 r k)) c := by
  have e : grouped y (ix3 r (group c) ⟨c % 128, by omega⟩) = y (ix2 r c) :=
    (grouped_at y r _ _).trans (congrArg (fun z => y (ix2 r z))
      (Fin.ext (by show 128 * ((c : ℕ) / 128) + (c : ℕ) % 128 = c; omega)))
  unfold Cert.Row.quant
  rw [← scale_at y r (group c) 0]
  refine Eq.trans ?_ (congrArg (fun z => min _ (max _ (Ideal.div z _))) e)
  pointwise [quant]
  rfl

end Cert.ReferenceIdeal.Result

end
-- ==== Proof.Equal.lean ====
/- The two programs' results are the same functions of the arguments, and the certificate's claims follow. -/
module

public import proofs.«01_k».proof.Defs
public import proofs.«01_k».proof.Proof.Array
public import proofs.«01_k».proof.Proof.Reference
public import proofs.«01_k».proof.Proof.Gen.Kernel.Frame
public import Idealize.ShloMosaic.Lib.Quiescent

@[expose] public section

set_option maxRecDepth 16384

noncomputable section

namespace Cert.ReferenceIdeal.Result

open Cert.ReferenceIdeal Cert.ReferenceIdeal.Gen Idealize.ShloMosaic

/-- A row of the reference's normalised array is the kernel's normalised row. -/
theorem row_eq (X R : FVec Ideal S16384x4096 .f32) (W : FVec Ideal S4096 .f32) (r : Fin 16384) :
    (fun c => normed X R W (ix2 r c)) = Cert.KernelIdeal.Array.rowAt X R W r :=
  funext fun c => normed_at X R W r c

/-- The reference's quantised array is the kernel's. -/
theorem quant_eq (X R : FVec Ideal S16384x4096 .f32) (W : FVec Ideal S4096 .f32) :
    quant (normed X R W) = Cert.KernelIdeal.Array.quantAll X R W := by
  funext i
  idx_vars i
  rw [quant_at, row_eq]
  rfl

/-- The reference's array of scales is the kernel's. -/
theorem scale_eq (X R : FVec Ideal S16384x4096 .f32) (W : FVec Ideal S4096 .f32) :
    shapeCast S16384x32 (scale (normed X R W)) shapeCasts_S16384x32x1_S16384x32 = Cert.KernelIdeal.Array.scaleAll X R W := by
  funext i
  idx_vars i
  pointwise
  rw [scale_at, row_eq]
  rfl

end Cert.ReferenceIdeal.Result

namespace Cert.Proof

open Idealize.ShloMosaic Idealize.SL.Sem

/-- Every run of the kernel ends, with its arguments unchanged and every semaphore at zero. -/
theorem frame_kernel : Cert.quiescent_Kernel := fun m ρ _ => Cert.Kernel.Gen.frame m ρ

/-- The same of the kernel read over the extended reals. -/
theorem frame_ideal : Cert.quiescent_KernelIdeal := fun m ρ _ => Cert.KernelIdeal.Gen.frame m ρ

/-- The same of the reference. -/
theorem frame_reference : Cert.quiescent_ReferenceIdeal := fun m ρ _ =>
  (θ_run Cert.ReferenceIdeal.defs _ _).mono
    (fun r h => ⟨fun c => (h c).2.2.2, sem_eq_zero_of_no_sems (by decide) r.2⟩)
    (Cert.ReferenceIdeal.Value.run (F := Ideal) m ρ)

/-- The name given to the kernel's literal stands, over the extended reals, for the real number `1 / 448`. -/
theorem named : Cert.preserves_Kernel_KernelIdeal :=
  IdealRules.named_const.statement Cert.KernelIdeal.κ "inv448" .f32 0x3B124925#32 ((448⁻¹ : ℝ) : EReal) rfl

/-- Over the extended reals the kernel and the reference end with equal results: all three arrays. -/
theorem equal : Cert.algebraic_KernelIdeal_ReferenceIdeal := by
  intro m ρ m' ρ' _ hagree
  refine ⟨_, _, _, Cert.KernelIdeal.Array.run m ρ, ?_⟩
  refine (θ_run Cert.ReferenceIdeal.defs _ _).mono
    (fun r h c => ⟨(h c).1.trans ?_, (h c).2.1.trans ?_, (h c).2.2.1.trans ?_, (h c).2.2.2⟩)
    (Cert.ReferenceIdeal.Value.run (F := Ideal) m' ρ')
  · rw [(hagree c).1, (hagree c).2.1, (hagree c).2.2]
    exact Cert.ReferenceIdeal.Result.quant_eq _ _ _
  · rw [(hagree c).1, (hagree c).2.1, (hagree c).2.2]
    exact Cert.ReferenceIdeal.Result.scale_eq _ _ _
  · rw [(hagree c).1, (hagree c).2.1]

end Cert.Proof

end
-- ==== Proof.lean ====
module

public import proofs.«01_k».proof.Defs
public import proofs.«01_k».proof.Proof.Equal
public import proofs.«01_k».proof.Proof.Gen.Kernel
public import proofs.«01_k».proof.Proof.Gen.KernelIdeal
public import proofs.«01_k».proof.Proof.Gen.ReferenceIdeal
public import Idealize.ShloMosaic.Adequacy
public import Idealize.ShloMosaic.Init

@[expose] public section

noncomputable section

namespace Cert.Proof

theorem claim : Cert.Claim :=
  ⟨Cert.Kernel.Gen.facts, Cert.KernelIdeal.Gen.facts, Cert.ReferenceIdeal.Gen.facts,
    frame_kernel, frame_ideal, frame_reference, named, equal⟩

end Cert.Proof

end
